-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16x2048x128 : Shape := ⟨4, ![1, 16, 2048, 128]⟩
abbrev S1x4x2048x128 : Shape := ⟨4, ![1, 4, 2048, 128]⟩
abbrev S1x1x128x128 : Shape := ⟨4, ![1, 1, 128, 128]⟩
abbrev S1x1x2048x128 : Shape := ⟨4, ![1, 1, 2048, 128]⟩
abbrev S128x128 : Shape := ⟨2, ![128, 128]⟩
abbrev S1x1x1024x128 : Shape := ⟨4, ![1, 1, 1024, 128]⟩
abbrev S1024x128 : Shape := ⟨2, ![1024, 128]⟩
abbrev S128x1024 : Shape := ⟨2, ![128, 1024]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S1x16x2048x128, .f32⟩
  | .hbm, ⟨1, _⟩ => ⟨S1x4x2048x128, .f32⟩
  | .hbm, ⟨2, _⟩ => ⟨S1x4x2048x128, .f32⟩
  | .hbm, ⟨3, _⟩ => ⟨S1x16x2048x128, .f32⟩
  | .local _ .vmem, ⟨0, _⟩ => ⟨S1x1x128x128, .f32⟩
  | .local _ .vmem, ⟨1, _⟩ => ⟨S1x1x128x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x128x128, .f32⟩
  | .local _ .vmem, ⟨7, _⟩ => ⟨S1x1x128x128, .f32⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 16], ![false, false, false]⟩

def k0_off1 (i : grid0.Coords) : Fin 4 → Nat :=
  let c0_3 : Index := 0#32
  let c0_4 : Index := 0#32
  let arg2 : BitVec 32 := BitVec.ofNat 32 (i 2).val
  let c7_i32 : BitVec 32 := 7#32
  let v0 : BitVec 32 := Scalar.subi arg2 c7_i32
  let c0_i32 : BitVec 32 := 0#32
  let v1 : BitVec 32 := Scalar.maxsi v0 c0_i32
  let c128_i32 : BitVec 32 := 128#32
  let v2 : BitVec 32 := Scalar.muli v1 c128_i32
  let v5 : Index := Scalar.indexCast v2
  let c0_5 : Index := 0#32
  ![0, 0, v5.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x16x2048x128 : Shape := ⟨4, ![1, 16, 2048, 128]⟩
abbrev S1x4x2048x128 : Shape := ⟨4, ![1, 4, 2048, 128]⟩
abbrev S16 : Shape := ⟨1, ![16]⟩
abbrev S16x1 : Shape := ⟨2, ![16, 1]⟩
abbrev S8 : Shape := ⟨1, ![8]⟩
abbrev S1x8 : Shape := ⟨2, ![1, 8]⟩
abbrev S_ : Shape := ⟨0, ![]⟩
abbrev S16x8 : Shape := ⟨2, ![16, 8]⟩
abbrev S1x16x16x128x128 : Shape := ⟨5, ![1, 16, 16, 128, 128]⟩
abbrev S1x4x16x128x128 : Shape := ⟨5, ![1, 4, 16, 128, 128]⟩
abbrev S16x8x1 : Shape := ⟨3, ![16, 8, 1]⟩
abbrev S1x4x16x8x128x128 : Shape := ⟨6, ![1, 4, 16, 8, 128, 128]⟩
abbrev S1x4x16x1024x128 : Shape := ⟨5, ![1, 4, 16, 1024, 128]⟩
abbrev S1x4x4x16x1024x128 : Shape := ⟨6, ![1, 4, 4, 16, 1024, 128]⟩
abbrev S1x16x16x1024x128 : Shape := ⟨5, ![1, 16, 16, 1024, 128]⟩
abbrev S128 : Shape := ⟨1, ![128]⟩
abbrev S1x128 : Shape := ⟨2, ![1, 128]⟩
abbrev S16x128 : Shape := ⟨2, ![16, 128]⟩
abbrev S1x1x128 : Shape := ⟨3, ![1, 1, 128]⟩
abbrev S16x8x128 : Shape := ⟨3, ![16, 8, 128]⟩
abbrev S16x1024 : Shape := ⟨2, ![16, 1024]⟩
abbrev S16x128x1 : Shape := ⟨3, ![16, 128, 1]⟩
abbrev S16x1x1024 : Shape := ⟨3, ![16, 1, 1024]⟩
abbrev S16x128x1024 : Shape := ⟨3, ![16, 128, 1024]⟩
abbrev S1x16x16x128x1024 : Shape := ⟨5, ![1, 16, 16, 128, 1024]⟩
abbrev S1x1x16x128x1024 : Shape := ⟨5, ![1, 1, 16, 128, 1024]⟩
abbrev S1x16x16x128 : Shape := ⟨4, ![1, 16, 16, 128]⟩
abbrev S1x16x16x128x1 : Shape := ⟨5, ![1, 16, 16, 128, 1]⟩

abbrev nBuf : Space → Nat
  | .hbm => 115
  | .vmem => 0
  | .smem => 0
  | _ => 0

abbrev bufTy : (tb : Table) → Fin (tcTables nBuf tb) → BufTy
  | .hbm, ⟨0, _⟩ => ⟨S1x16x2048x128, .f32⟩
  | .hbm, ⟨1, _⟩ => ⟨S1x4x2048x128, .f32⟩
  | .hbm, ⟨2, _⟩ => ⟨S1x4x2048x128, .f32⟩
  | .hbm, ⟨3, _⟩ => ⟨S16, .i32⟩
  | .hbm, ⟨4, _⟩ => ⟨S16x1, .i32⟩
  | .hbm, ⟨5, _⟩ => ⟨S8, .i32⟩
  | .hbm, ⟨6, _⟩ => ⟨S1x8, .i32⟩
  | .hbm, ⟨7, _⟩ => ⟨S_, .i32⟩
  | .hbm, ⟨8, _⟩ => ⟨S16x1, .i32⟩
  | .hbm, ⟨9, _⟩ => ⟨S16x1, .i32⟩
  | .hbm, ⟨10, _⟩ => ⟨S16x8, .i32⟩
  | .hbm, ⟨11, _⟩ => ⟨S16x8, .i32⟩
  | .hbm, ⟨12, _⟩ => ⟨S16x8, .i32⟩
  | .hbm, ⟨13, _⟩ => ⟨S_, .i32⟩
  | .hbm, ⟨14, _⟩ => ⟨S16x8, .i32⟩
  | .hbm, ⟨15, _⟩ => ⟨S16x8, .i1⟩
  | .hbm, ⟨16, _⟩ => ⟨S_, .i32⟩
  | .hbm, ⟨17, _⟩ => ⟨S_, .i32⟩
  | .hbm, ⟨18, _⟩ => ⟨S16x8, .i32⟩
  | .hbm, ⟨19, _⟩ => ⟨S16x8, .i32⟩
  | .hbm, ⟨20, _⟩ => ⟨S_, .i32⟩
  | .hbm, ⟨21, _⟩ => ⟨S16x8, .i32⟩
  | .hbm, ⟨22, _⟩ => ⟨S16x8, .i1⟩
  | .hbm, ⟨23, _⟩ => ⟨S_, .i32⟩
  | .hbm, ⟨24, _⟩ => ⟨S16x8, .i32⟩
  | .hbm, ⟨25, _⟩ => ⟨S16x8, .i32⟩
  | .hbm, ⟨26, _⟩ => ⟨S1x16x16x128x128, .f32⟩
  | .hbm, ⟨27, _⟩ => ⟨S1x4x16x128x128, .f32⟩
  | .hbm, ⟨28, _⟩ => ⟨S1x4x16x128x128, .f32⟩
  | .hbm, ⟨29, _⟩ => ⟨S_, .i32⟩
  | .hbm, ⟨30, _⟩ => ⟨S16x8, .i32⟩
  | .hbm, ⟨31, _⟩ => ⟨S16x8, .i1⟩
  | .hbm, ⟨32, _⟩ => ⟨S_, .i32⟩
  | .hbm, ⟨33, _⟩ => ⟨S16x8, .i32⟩
  | .hbm, ⟨34, _⟩ => ⟨S16x8, .i32⟩
  | .hbm, ⟨35, _⟩ => ⟨S16x8, .i32⟩
  | .hbm, ⟨36, _⟩ => ⟨S16x8x1, .i32⟩
  | .hbm, ⟨37, _⟩ => ⟨S1x4x16x8x128x128, .f32⟩
  | .hbm, ⟨38, _⟩ => ⟨S1x4x16x1024x128, .f32⟩
  | .hbm, ⟨39, _⟩ => ⟨S_, .i32⟩
  | .hbm, ⟨40, _⟩ => ⟨S16x8, .i32⟩
  | .hbm, ⟨41, _⟩ => ⟨S16x8, .i1⟩
  | .hbm, ⟨42, _⟩ => ⟨S_, .i32⟩
  | .hbm, ⟨43, _⟩ => ⟨S16x8, .i32⟩
  | .hbm, ⟨44, _⟩ => ⟨S16x8, .i32⟩
  | .hbm, ⟨45, _⟩ => ⟨S16x8, .i32⟩
  | .hbm, ⟨46, _⟩ => ⟨S16x8x1, .i32⟩
  | .hbm, ⟨47, _⟩ => ⟨S1x4x16x8x128x128, .f32⟩
  | .hbm, ⟨48, _⟩ => ⟨S1x4x16x1024x128, .f32⟩
  | .hbm, ⟨49, _⟩ => ⟨S1x4x4x16x1024x128, .f32⟩
  | .hbm, ⟨50, _⟩ => ⟨S1x16x16x1024x128, .f32⟩
  | .hbm, ⟨51, _⟩ => ⟨S1x4x4x16x1024x128, .f32⟩
  | .hbm, ⟨52, _⟩ => ⟨S1x16x16x1024x128, .f32⟩
  | .hbm, ⟨53, _⟩ => ⟨S16, .i32⟩
  | .hbm, ⟨54, _⟩ => ⟨S16x1, .i32⟩
  | .hbm, ⟨55, _⟩ => ⟨S_, .i32⟩
  | .hbm, ⟨56, _⟩ => ⟨S16x1, .i32⟩
  | .hbm, ⟨57, _⟩ => ⟨S16x1, .i32⟩
  | .hbm, ⟨58, _⟩ => ⟨S128, .i32⟩
  | .hbm, ⟨59, _⟩ => ⟨S1x128, .i32⟩
  | .hbm, ⟨60, _⟩ => ⟨S16x128, .i32⟩
  | .hbm, ⟨61, _⟩ => ⟨S16x128, .i32⟩
  | .hbm, ⟨62, _⟩ => ⟨S16x128, .i32⟩
  | .hbm, ⟨63, _⟩ => ⟨S16x8x1, .i32⟩
  | .hbm, ⟨64, _⟩ => ⟨S_, .i32⟩
  | .hbm, ⟨65, _⟩ => ⟨S16x8x1, .i32⟩
  | .hbm, ⟨66, _⟩ => ⟨S16x8x1, .i32⟩
  | .hbm, ⟨67, _⟩ => ⟨S128, .i32⟩
  | .hbm, ⟨68, _⟩ => ⟨S1x1x128, .i32⟩
  | .hbm, ⟨69, _⟩ => ⟨S16x8x128, .i32⟩
  | .hbm, ⟨70, _⟩ => ⟨S16x8x128, .i32⟩
  | .hbm, ⟨71, _⟩ => ⟨S16x8x128, .i32⟩
  | .hbm, ⟨72, _⟩ => ⟨S16x1024, .i32⟩
  | .hbm, ⟨73, _⟩ => ⟨S16x8x128, .i1⟩
  | .hbm, ⟨74, _⟩ => ⟨S16x1024, .i1⟩
  | .hbm, ⟨75, _⟩ => ⟨S16x128x1, .i32⟩
  | .hbm, ⟨76, _⟩ => ⟨S16x1x1024, .i32⟩
  | .hbm, ⟨77, _⟩ => ⟨S16x128x1024, .i32⟩
  | .hbm, ⟨78, _⟩ => ⟨S16x128x1024, .i32⟩
  | .hbm, ⟨79, _⟩ => ⟨S16x128x1024, .i1⟩
  | .hbm, ⟨80, _⟩ => ⟨S16x1x1024, .i1⟩
  | .hbm, ⟨81, _⟩ => ⟨S16x128x1024, .i1⟩
  | .hbm, ⟨82, _⟩ => ⟨S16x128x1024, .i1⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x16x16x128x1024, .f32⟩
  | .hbm, ⟨88, _⟩ => ⟨S1x16x16x128x1024, .f32⟩
  | .hbm, ⟨89, _⟩ => ⟨S1x16x16x128x1024, .f32⟩
  | .hbm, ⟨90, _⟩ => ⟨S1x1x16x128x1024, .i1⟩
  | .hbm, ⟨91, _⟩ => ⟨S_, .f32⟩
  | .hbm, ⟨92, _⟩ => ⟨S_, .f32⟩
  | .hbm, ⟨93, _⟩ => ⟨S1x16x16x128x1024, .i1⟩
  | .hbm, ⟨94, _⟩ => ⟨S1x16x16x128x1024, .f32⟩
  | .hbm, ⟨95, _⟩ => ⟨S1x16x16x128x1024, .f32⟩
  | .hbm, ⟨96, _⟩ => ⟨S_, .f32⟩
  | .hbm, ⟨97, _⟩ => ⟨S1x16x16x128, .f32⟩
  | .hbm, ⟨98, _⟩ => ⟨S1x16x16x128x1, .f32⟩
  | .hbm, ⟨99, _⟩ => ⟨S1x16x16x128x1024, .f32⟩
  | .hbm, ⟨100, _⟩ => ⟨S1x16x16x128x1024, .f32⟩
  | .hbm, ⟨101, _⟩ => ⟨S1x16x16x128x1024, .f32⟩
  | .hbm, ⟨102, _⟩ => ⟨S1x1x16x128x1024, .i1⟩
  | .hbm, ⟨103, _⟩ => ⟨S_, .f32⟩
  | .hbm, ⟨104, _⟩ => ⟨S_, .f32⟩
  | .hbm, ⟨105, _⟩ => ⟨S1x16x16x128x1024, .i1⟩
  | .hbm, ⟨106, _⟩ => ⟨S1x16x16x128x1024, .f32⟩
  | .hbm, ⟨107, _⟩ => ⟨S1x16x16x128x1024, .f32⟩
  | .hbm, ⟨108, _⟩ => ⟨S_, .f32⟩
  | .hbm, ⟨109, _⟩ => ⟨S1x16x16x128, .f32⟩
  | .hbm, ⟨110, _⟩ => ⟨S1x16x16x128x1, .f32⟩
  | .hbm, ⟨111, _⟩ => ⟨S1x16x16x128x128, .f32⟩
  | .hbm, ⟨112, _⟩ => ⟨S1x16x16x128x128, .f32⟩
  | .hbm, ⟨113, _⟩ => ⟨S1x16x16x128x128, .f32⟩
  | .hbm, ⟨114, _⟩ => ⟨S1x16x2048x128, .f32⟩
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== Proof.Softmax.lean ====
/-
  MASKED ATTENTION OVER A LIST OF KEYS, as extended reals. Both programs compute, for one query row, a softmax-weighted
  average of value entries over 1024 key slots, some of which are masked. `attend ok s v` is that average: `ok` says which
  slots count, `s` is the score and `v` the value entry of each slot. This file shows that the average does not depend on
  the order of the slots nor on what a masked slot holds (`attend_reindex`), and that masking a score by `⊥` before the
  exponential already gives the slot weight zero (`exp_masked`).
-/
module

public import Idealize.ShloMosaic.Lib.Pointwise

@[expose] public section

noncomputable section

namespace Cert.Attention

open Idealize.ShloMosaic

/-- The bit pattern both programs start their maxima from is `-∞`. -/
theorem ofBits_negInf : Ideal.ofBits .f32 0xFF800000#32 = ⊥ := by
  simp [Ideal.ofBits, Ideal.ieee]

variable {ι : Type} [Fintype ι]

/-- The score of a slot with the mask applied: `⊥` where the slot does not count. -/
def masked (ok : ι → Prop) [DecidablePred ok] (s : ι → EReal) (c : ι) : EReal := if ok c then s c else ⊥

/-- The greatest score over the slots that count. -/
def top (ok : ι → Prop) [DecidablePred ok] (s : ι → EReal) : EReal := Finset.univ.fold max ⊥ (masked ok s)

/-- The unnormalised softmax weight of a slot. -/
def weight (ok : ι → Prop) [DecidablePred ok] (s : ι → EReal) (c : ι) : EReal :=
  if ok c then Ideal.exp (s c - top ok s) else 0

/-- The softmax-weighted average of `v` over the slots that count. -/
def attend (ok : ι → Prop) [DecidablePred ok] (s v : ι → EReal) : EReal :=
  Ideal.div (∑ c, weight ok s c * v c) (∑ c, weight ok s c)

/-- A score masked to `⊥` has weight zero whatever is subtracted from it. -/
theorem exp_masked (ok : ι → Prop) [DecidablePred ok] (s : ι → EReal) (c : ι) :
    Ideal.exp (masked ok s c - top ok s) = weight ok s c := by
  unfold weight masked
  split_ifs
  · rfl
  · rw [sub_eq_add_neg, EReal.bot_add]
    rfl

variable {κ : Type} [Fintype κ]

/-- The greatest score is the same after re-indexing the slots. -/
theorem top_reindex (e : ι ≃ κ) (ok : ι → Prop) [DecidablePred ok] (ok' : κ → Prop) [DecidablePred ok'] (s : ι → EReal)
    (s' : κ → EReal) (hok : ∀ c, ok' (e c) ↔ ok c) (hs : ∀ c, ok c → s' (e c) = s c) : top ok' s' = top ok s := by
  unfold top
  rw [← Finset.map_univ_equiv e, Finset.fold_map]
  refine Finset.fold_congr fun c _ => ?_
  show masked ok' s' (e c) = masked ok s c
  unfold masked
  by_cases h : ok c
  · rw [if_pos h, if_pos ((hok c).mpr h), hs c h]
  · rw [if_neg h, if_neg fun h' => h ((hok c).mp h')]

/-- The average is the same after re-indexing the slots, provided the same slots count and those that do hold the same
    score and the same value entry. -/
theorem attend_reindex (e : ι ≃ κ) (ok : ι → Prop) [DecidablePred ok] (ok' : κ → Prop) [DecidablePred ok']
    (s v : ι → EReal) (s' v' : κ → EReal) (hok : ∀ c, ok' (e c) ↔ ok c) (hs : ∀ c, ok c → s' (e c) = s c)
    (hv : ∀ c, ok c → v' (e c) = v c) : attend ok' s' v' = attend ok s v := by
  have hw : ∀ c, weight ok' s' (e c) = weight ok s c := fun c => by
    unfold weight
    rw [top_reindex e ok ok' s s' hok hs]
    by_cases h : ok c
    · rw [if_pos h, if_pos ((hok c).mpr h), hs c h]
    · rw [if_neg h, if_neg fun h' => h ((hok c).mp h')]
  unfold attend
  rw [← Equiv.sum_comp e (fun c => weight ok' s' c * v' c), ← Equiv.sum_comp e (weight ok' s')]
  congr 1
  · refine Finset.sum_congr rfl fun c _ => ?_
    rw [hw]
    by_cases h : ok c
    · rw [hv c h]
    · unfold weight
      rw [if_neg h, zero_mul, zero_mul]
  · exact Finset.sum_congr rfl fun c _ => hw c

end Cert.Attention
-- ==== Proof.BlockValue.lean ====
/-
  WHAT ONE BLOCK COMPUTES. At a grid point whose third coordinate is `i`, the kernel body loads a block of 128 query rows
  and a window of 1024 key and value rows that starts at row `128 (i - 7)` (row 0 when `i < 7`), and stores, for query row
  `r` and output column `d`, the masked attention average of Softmax.lean over the 1024 window rows (`payload_apply`):
  slot `x` counts when key row `start + x` is not after query row `128 i + r`.
-/
module

public import proofs.«01_k».proof.Proof.Gen.KernelIdeal.Value
public import proofs.«01_k».proof.Proof.Softmax
public import Idealize.ShloMosaic.Lib.WordCmp

@[expose] public section

set_option maxRecDepth 16384

noncomputable section

namespace Cert.KernelIdeal.BlockValue

open Cert.KernelIdeal Cert.KernelIdeal.Gen Cert.Attention
open Idealize.ShloMosaic Idealize.ShloMosaic.TcCoe Idealize.SL.Sem
open Idealize.ShloMosaic (ix4)

/-- The first key row of the window of query block `i`. -/
def start (i : Nat) : Nat := (i - 7) * 128

/-- The window's start as the body computes it in 32-bit words. -/
theorem start_word : ∀ i : Fin 16,
    Scalar.muli (Scalar.maxsi (Scalar.subi (BitVec.ofNat 32 i.val) 7#32) 0#32) 128#32 = BitVec.ofNat 32 (start i.val) := by
  decide +kernel

/-- The loads' row offset is the window's start. -/
theorem off_eq (i : grid0.Coords) : k0_off1 i = ![0, 0, start (i 2).val, 0] := by
  have h := start_word (i 2)
  unfold k0_off1
  dsimp only
  rw [h]
  have hb : start (i 2).val < 2 ^ 32 := by have := (i 2).isLt; unfold start; have : (i 2).val < 16 := this; omega
  simp only [Scalar.indexCast, BitVec.toNat_ofNat, Nat.mod_eq_of_lt hb]

/-- The causal comparison in words is the comparison of row numbers. -/
theorem causal_word (i : Fin 16) (r : Fin 128) (x : Fin 1024) :
    IntOp.cmpi .sge (IntOp.addi (Scalar.muli (BitVec.ofNat 32 i.val) 128#32) (BitVec.ofNat 32 r.val))
      (IntOp.addi (Scalar.muli (Scalar.maxsi (Scalar.subi (BitVec.ofNat 32 i.val) 7#32) 0#32) 128#32) (BitVec.ofNat 32 x.val))
      = BitVec.ofBool (decide (start i.val + x.val ≤ 128 * i.val + r.val)) := by
  rw [start_word]
  have h1 : IntOp.addi (Scalar.muli (BitVec.ofNat 32 i.val) 128#32) (BitVec.ofNat 32 r.val)
      = BitVec.ofNat 32 (128 * i.val + r.val) := by
    show BitVec.ofNat 32 i.val * BitVec.ofNat 32 128 + BitVec.ofNat 32 r.val = _
    rw [← BitVec.ofNat_mul, ← BitVec.ofNat_add, Nat.mul_comm]
  have h2 : IntOp.addi (BitVec.ofNat 32 (start i.val)) (BitVec.ofNat 32 x.val) = BitVec.ofNat 32 (start i.val + x.val) := by
    show BitVec.ofNat 32 (start i.val) + BitVec.ofNat 32 x.val = _
    rw [← BitVec.ofNat_add]
  have hi := i.isLt
  have hr := r.isLt
  have hx := x.isLt
  have hs : start i.val ≤ 1024 := by unfold start; omega
  rw [h1, h2, WordCmp.cmpi_sge_ofNat (by omega) (by omega)]

/-- The score of window row `x` for query row `r`: their inner product, scaled. -/
def score (q : FVec Ideal S1x1x128x128 .f32) (k : FVec Ideal S1x1x1024x128 .f32) (r : Fin 128) (x : Fin 1024) : EReal :=
  (∑ e : Fin 128, q (ix4 0 0 r e) * k (ix4 0 0 x e)) * (((Real.sqrt 128)⁻¹ : ℝ) : EReal)

/-- The block the body stores, entry by entry. -/
theorem payload_apply (i : grid0.Coords) (q : FVec Ideal S1x1x128x128 .f32) (k v : FVec Ideal S1x1x1024x128 .f32)
    (r d : Fin 128) :
    k0_pay1 (F := Ideal) (k0_pay2 i q k v) (ix4 0 0 r d)
      = attend (fun x : Fin 1024 => start (i 2).val + x.val ≤ 128 * (i 2).val + r.val) (score q k r)
          (fun x => v (ix4 0 0 x d)) := by
  have hscale : Named.named (F := Ideal) (φ := .f32) κ "scale" 0x3DB504F3#32 = (((Real.sqrt 128)⁻¹ : ℝ) : EReal) :=
    IdealRules.named_const.ideal_named_scalar _ _ _ _ rfl
  have hmask : Named.named (F := Ideal) (φ := .f32) κ "mask" 0xF149F2CA#32 = (⊥ : EReal) :=
    IdealRules.named_const.ideal_named_scalar _ _ _ _ rfl
  have hz : ∀ x : Fin 1024, Scalar.select
      (IntOp.cmpi .sge (IntOp.addi (Scalar.muli (BitVec.ofNat 32 (i 2).val) 128#32) (BitVec.ofNat 32 r.val))
        (IntOp.addi (Scalar.muli (Scalar.maxsi (Scalar.subi (BitVec.ofNat 32 (i 2).val) 7#32) 0#32) 128#32)
          (BitVec.ofNat 32 x.val)))
      (score q k r x) (⊥ : EReal)
      = masked (fun x : Fin 1024 => start (i 2).val + x.val ≤ 128 * (i 2).val + r.val) (score q k r) x := fun x => by
    rw [causal_word (i 2) r x, WordCmp.select_decide]
    rfl
  unfold attend
  simp only [← exp_masked]
  unfold top
  simp only [← hz]
  unfold score
  pointwise [k0_pay1, k0_pay2, hscale, hmask, ofBits_negInf]

end Cert.KernelIdeal.BlockValue
-- ==== Proof.KernelArray.lean ====
/-
  WHAT THE KERNEL'S RESULT ARRAY HOLDS. Every grid point writes one block of 128 query rows of one head, the blocks tile
  the result, so the array after the run is one function of the three arguments (`final`): at head `h` and query row `s`,
  the masked attention average over the 1024 key rows from `start (s / 128)` on, of key/value head `h / 4`.
-/
module

public import proofs.«01_k».proof.Proof.BlockValue
public import Idealize.ShloMosaic.Lib.Pipeline.ValueKit

@[expose] public section

set_option maxRecDepth 16384

noncomputable section

namespace Cert.KernelIdeal.KernelArray

open Cert.KernelIdeal Cert.KernelIdeal.Gen Cert.KernelIdeal.BlockValue Cert.Attention
open Idealize.ShloMosaic Idealize.ShloMosaic.TcCoe Idealize.SL.Sem
open Idealize.ShloMosaic.Pipeline (Dat)
open Idealize.ShloMosaic (ix4)

variable (m : (ℓ : Loc nD τ sig) → Buf (Elt Ideal) ℓ)

/-- Key row `x` of the window of query row `s`. -/
def keyRow (s : Fin 2048) (x : Fin 1024) : Fin 2048 :=
  ⟨start (s.val / 128) + x.val, by have := s.isLt; have := x.isLt; unfold start; omega⟩

/-- The key/value head that query head `h` reads. -/
def kvHead (h : Fin 16) : Fin 4 := ⟨h.val / 4, by have := h.isLt; omega⟩

/-- One entry of the result: head `h`, query row `s`, column `d`. -/
def entry (Q : FVec Ideal S1x16x2048x128 .f32) (K V : FVec Ideal S1x4x2048x128 .f32) (h : Fin 16) (s : Fin 2048)
    (d : Fin 128) : EReal :=
  attend (fun x : Fin 1024 => start (s.val / 128) + x.val ≤ s.val)
    (fun x => (∑ e : Fin 128, Q (ix4 0 h s e) * K (ix4 0 (kvHead h) (keyRow s x) e)) * (((Real.sqrt 128)⁻¹ : ℝ) : EReal))
    (fun x => V (ix4 0 (kvHead h) (keyRow s x) d))

/-- The result array as a function of the arguments. -/
def array (Q : FVec Ideal S1x16x2048x128 .f32) (K V : FVec Ideal S1x4x2048x128 .f32) : FVec Ideal S1x16x2048x128 .f32 :=
  fun j => entry Q K V (j 1) (j 2) (j 3)

/-- The block indices of the four windows at every grid point. -/
theorem idx : ∀ t : Fin cfg0.N, win0_0.index t = ![0, (grid0.coords t 1).val, (grid0.coords t 2).val, 0]
    ∧ win0_1.index t = ![0, (grid0.coords t 1).val / 4, 0, 0] ∧ win0_2.index t = ![0, (grid0.coords t 1).val / 4, 0, 0]
    ∧ win0_3.index t = ![0, (grid0.coords t 1).val, (grid0.coords t 2).val, 0] :=
  (by decide +kernel : ∀ t : Fin grid0.N, _)

/-- The array row that row `r` of point `t`'s block sits at. -/
def queryRow (t : Fin cfg0.N) (r : Fin 128) : Fin 2048 :=
  ⟨128 * (grid0.coords t 2).val + r.val, by have h : (grid0.coords t 2).val < 16 := (grid0.coords t 2).isLt; omega⟩

/-- The query block read at an entry is the query array at that row. -/
theorem read_q (c : Dev nD) (t : Fin cfg0.N) (r e : Fin 128) : iblk m c 0 t (ix4 0 0 r e)
    = m ((c : Thread nD τ).loc main_arg0) (ix4 0 (grid0.coords t 1) (queryRow t r) e) := by
  unfold queryRow
  blk_ext [iblk, V, idx t]

/-- That row lies in the point's query block. -/
theorem block_of_row (t : Fin cfg0.N) (r : Fin 128) : (queryRow t r).val / 128 = (grid0.coords t 2).val := by
  have := r.isLt
  unfold queryRow
  dsimp only
  omega

/-- The key window read at an entry is the key array at the window's row. -/
theorem read_k (c : Dev nD) (t : Fin cfg0.N) (r : Fin 128) (x : Fin 1024) (e : Fin 128)
    (h : ∀ a, (k0_off1 (grid0.coords t)) a + S1x1x1024x128.size a ≤ S1x1x2048x128.size a) :
    View.ld (iblk m c 1 t) (Rect.unit (s := S1x1x2048x128) (k0_off1 (grid0.coords t)) S1x1x1024x128.size h) (ix4 0 0 x e)
    = m ((c : Thread nD τ).loc main_arg1) (ix4 0 (kvHead (grid0.coords t 1)) (keyRow (queryRow t r) x) e) := by
  have hs := block_of_row t r
  unfold queryRow at hs
  unfold queryRow keyRow kvHead
  pointwise [off_eq, hs]
  blk_ext [iblk, V, idx t]

/-- The value window read at an entry is the value array at the window's row. -/
theorem read_v (c : Dev nD) (t : Fin cfg0.N) (r : Fin 128) (x : Fin 1024) (e : Fin 128)
    (h : ∀ a, (k0_off1 (grid0.coords t)) a + S1x1x1024x128.size a ≤ S1x1x2048x128.size a) :
    View.ld (iblk m c 2 t) (Rect.unit (s := S1x1x2048x128) (k0_off1 (grid0.coords t)) S1x1x1024x128.size h) (ix4 0 0 x e)
    = m ((c : Thread nD τ).loc main_arg2) (ix4 0 (kvHead (grid0.coords t 1)) (keyRow (queryRow t r) x) e) := by
  have hs := block_of_row t r
  unfold queryRow at hs
  unfold queryRow keyRow kvHead
  pointwise [off_eq, hs]
  blk_ext [iblk, V, idx t]

/-- What the body leaves at a point is that block of the array. -/
theorem block_eq (c : Dev nD) (t : Fin cfg0.N) (r d : Fin 128) : outsAt0 m c t (ix4 0 0 r d)
    = entry (m ((c : Thread nD τ).loc main_arg0)) (m ((c : Thread nD τ).loc main_arg1)) (m ((c : Thread nD τ).loc main_arg2))
        (grid0.coords t 1) (queryRow t r) d := by
  unfold outsAt0
  frame_out
  rw [payload_apply]
  unfold entry
  refine (attend_reindex (Equiv.refl _) _ _ _ _ _ _ (fun x => ?_) (fun x _ => ?_) (fun x _ => ?_)).symm
  · rw [block_of_row t r]
    exact Iff.rfl
  · show _ = score _ _ r x
    unfold score
    refine congrArg (· * _) (Finset.sum_congr rfl fun e _ => ?_)
    exact (congrArg₂ (fun a b : EReal => a * b) (read_q m c t r e) (read_k m c t r x e _)).symm
  · exact (read_v m c t r x d _).symm

/-- The array after the run. -/
theorem final (c : Dev nD) : (dats m 0 c).arrAt 3 cfg0.N
    = array (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  have hy : y = ix4 0 0 (y 2) (y 3) := by blk_ext
  have he : ((View.whole main_v0).slice (win0_3.rect t)).emb y
      = ix4 0 (grid0.coords t 1) (queryRow t (y 2)) (y 3) := by
    unfold queryRow
    blk_ext [idx t]
  rw [he]
  exact (congrArg (outsAt0 m c t) hy).trans (block_eq m c t (y 2) (y 3))

end Cert.KernelIdeal.KernelArray
-- ==== Proof.RefIndex.lean ====
/-
  THE REFERENCE'S INTEGER TABLES. For query block `i` and window position `j` (8 blocks per window, the last one the query
  block itself) the reference tabulates the key block `i + j - 7`, or `-1` when that is negative, replaces `-1` by block 0
  for the gather, and marks those positions invalid. This file reads the tables: the gathered block is `i + j - 7` in
  natural-number subtraction (`gathered_k`, `gathered_v`), a position is valid when `7 ≤ i + j` (`valid_word`), and the
  full mask admits window slot `n` for query row `r` exactly when its block is valid and its key row is not after the
  query row (`mask_word`).
-/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.RefIndex

open Cert.ReferenceIdeal Cert.ReferenceIdeal.Gen Cert.ReferenceIdeal.Read
open Idealize.ShloMosaic Idealize.ShloMosaic.TcCoe Idealize.SL.Sem
open Idealize.ShloMosaic (ix1 ix2 ix3 ix4 ix5 ix6)

/-- The table of key blocks with `-1` for a block before the first, as words. -/
theorem table_word (i : Fin 16) (j : Fin 8) : val_main_v11 (F := Ideal) (ix2 i j)
    = Scalar.select (IntOp.cmpi .slt (IntOp.addi (IntOp.subi (BitVec.ofNat 32 i.val) 7#32) (BitVec.ofNat 32 j.val)) 0#32)
        4294967295#32 (IntOp.addi (IntOp.subi (BitVec.ofNat 32 i.val) 7#32) (BitVec.ofNat 32 j.val)) := by
  pointwise [val_main_v11, val_main_v10, val_main_v8, val_main_v6, val_main_v7, val_main_v5, val_main_v1, val_main_v0,
    val_main_v4, val_main_c, val_main_v3, val_main_v2, val_main_v9, val_main_c_0, val_main_call0_v1, val_main_call0_v0,
    val_main_c_1]
  rfl

/-- The table's entries after replacing `-1` by 0: the block `i + j - 7`, cut off at 0. -/
theorem block_words : ∀ (i : Fin 16) (j : Fin 8),
    IntOp.maxsi (Scalar.select (IntOp.cmpi .slt (IntOp.addi (IntOp.subi (BitVec.ofNat 32 i.val) 7#32) (BitVec.ofNat 32 j.val)) 0#32)
        4294967295#32 (IntOp.addi (IntOp.subi (BitVec.ofNat 32 i.val) 7#32) (BitVec.ofNat 32 j.val))) 0#32
      = BitVec.ofNat 32 (i.val + j.val - 7) := by
  decide +kernel

/-- The validity test on the table's entries. -/
theorem valid_words : ∀ (i : Fin 16) (j : Fin 8),
    IntOp.cmpi .sge (Scalar.select (IntOp.cmpi .slt (IntOp.addi (IntOp.subi (BitVec.ofNat 32 i.val) 7#32) (BitVec.ofNat 32 j.val)) 0#32)
        4294967295#32 (IntOp.addi (IntOp.subi (BitVec.ofNat 32 i.val) 7#32) (BitVec.ofNat 32 j.val))) 0#32
      = BitVec.ofBool (decide (7 ≤ i.val + j.val)) := by
  decide +kernel

/-- The gather's block table. -/
theorem block_word (i : Fin 16) (j : Fin 8) : val_main_v15 (F := Ideal) (ix2 i j) = BitVec.ofNat 32 (i.val + j.val - 7) := by
  rw [← block_words, ← table_word]
  pointwise [val_main_v15, val_main_v14, val_main_c_3]

/-- The validity table. -/
theorem valid_word (i : Fin 16) (j : Fin 8) : val_main_v13 (F := Ideal) (ix2 i j) = BitVec.ofBool (decide (7 ≤ i.val + j.val)) := by
  rw [← valid_words, ← table_word]
  pointwise [val_main_v13, val_main_v12, val_main_c_2]

/-- A block number is not negative, so wrapping negative indices leaves it, and it is one of the 16 blocks. -/
theorem wrap_words : ∀ (i : Fin 16) (j : Fin 8),
    min (Scalar.select (IntOp.cmpi .slt (BitVec.ofNat 32 (i.val + j.val - 7)) 0#32)
      (IntOp.addi (BitVec.ofNat 32 (i.val + j.val - 7)) 16#32) (BitVec.ofNat 32 (i.val + j.val - 7))).toInt.toNat 15
      = i.val + j.val - 7 := by
  decide +kernel

/-- The block the key gather reads. -/
theorem gathered_k (i : Fin 16) (j : Fin 8) : min (val_main_v24 (F := Ideal) (ix3 i j 0)).toInt.toNat 15 = i.val + j.val - 7 := by
  rw [← wrap_words, ← block_word]
  pointwise [val_main_v24, val_main_v23, val_main_v20, val_main_v22, val_main_v19, val_main_v21, val_main_c_4, val_main_c_5]

/-- The block the value gather reads. -/
theorem gathered_v (i : Fin 16) (j : Fin 8) : min (val_main_v32 (F := Ideal) (ix3 i j 0)).toInt.toNat 15 = i.val + j.val - 7 := by
  rw [← wrap_words, ← block_word]
  pointwise [val_main_v32, val_main_v31, val_main_v28, val_main_v30, val_main_v27, val_main_v29, val_main_c_6, val_main_c_7]

/-- The window block that slot `n` lies in, and its row there. -/
def slotBlock (n : Fin 1024) : Fin 8 := ⟨n.val / 128, by have := n.isLt; omega⟩
def slotRow (n : Fin 1024) : Fin 128 := ⟨n.val % 128, Nat.mod_lt _ (by omega)⟩

/-- The key row of window slot `n` of query block `i`. -/
def slotKey (i : Fin 16) (n : Fin 1024) : Nat := (i.val + n.val / 128 - 7) * 128 + n.val % 128

/-- The query positions. -/
theorem qpos_word (i : Fin 16) (r : Fin 128) : val_main_v47 (F := Ideal) (ix2 i r) = BitVec.ofNat 32 (128 * i.val + r.val) := by
  have h : BitVec.ofNat 32 (128 * i.val + r.val) = IntOp.addi (IntOp.muli (BitVec.ofNat 32 i.val) 128#32) (BitVec.ofNat 32 r.val) := by
    show _ = BitVec.ofNat 32 i.val * BitVec.ofNat 32 128 + BitVec.ofNat 32 r.val
    rw [← BitVec.ofNat_mul, ← BitVec.ofNat_add, Nat.mul_comm]
  rw [h]
  pointwise [val_main_v47, val_main_v45, val_main_v46, val_main_v44, val_main_v43, val_main_v42, val_main_v40, val_main_v39,
    val_main_v41, val_main_c_8]

/-- The key positions. -/
theorem kpos_word (i : Fin 16) (n : Fin 1024) : val_main_v56 (F := Ideal) (ix2 i n) = BitVec.ofNat 32 (slotKey i n) := by
  have h : BitVec.ofNat 32 (slotKey i n)
      = IntOp.addi (IntOp.muli (val_main_v15 (F := Ideal) (ix2 i (slotBlock n))) 128#32) (BitVec.ofNat 32 (slotRow n).val) := by
    rw [block_word]
    show _ = BitVec.ofNat 32 _ * BitVec.ofNat 32 128 + BitVec.ofNat 32 _
    rw [← BitVec.ofNat_mul, ← BitVec.ofNat_add]
    rfl
  rw [h]
  unfold slotBlock slotRow
  pointwise [val_main_v56, val_main_v55, val_main_v53, val_main_v54, val_main_v52, val_main_v51, val_main_v50, val_main_v48,
    val_main_v49, val_main_c_9]

/-- The validity table repeated over the slots of a block. -/
theorem slotValid_word (i : Fin 16) (n : Fin 1024) :
    val_main_v58 (F := Ideal) (ix2 i n) = BitVec.ofBool (decide (7 ≤ i.val + n.val / 128)) := by
  refine Eq.trans ?_ (valid_word i (slotBlock n))
  unfold slotBlock
  pointwise [val_main_v58, val_main_v57]

/-- Which window slots count for a query row. -/
def admitted (i : Fin 16) (r : Fin 128) (n : Fin 1024) : Prop :=
  slotKey i n ≤ 128 * i.val + r.val ∧ 7 ≤ i.val + n.val / 128

instance (i : Fin 16) (r : Fin 128) : DecidablePred (admitted i r) := fun n => by unfold admitted; infer_instance

/-- The full mask. -/
theorem mask_word (i : Fin 16) (r : Fin 128) (n : Fin 1024) :
    val_main_v66 (F := Ideal) (ix3 i r n) = BitVec.ofBool (decide (admitted i r n)) := by
  have hs : slotKey i n < 2 ^ 31 := by have := i.isLt; have := n.isLt; unfold slotKey; omega
  have hq : 128 * i.val + r.val < 2 ^ 31 := by have := i.isLt; have := r.isLt; omega
  have h : val_main_v66 (F := Ideal) (ix3 i r n)
      = IntOp.andi (IntOp.cmpi .sge (val_main_v47 (F := Ideal) (ix2 i r)) (val_main_v56 (F := Ideal) (ix2 i n)))
          (val_main_v58 (F := Ideal) (ix2 i n)) := by
    pointwise [val_main_v66, val_main_v65, val_main_v64, val_main_v63, val_main_v62, val_main_v61, val_main_v60, val_main_v59]
  rw [h, qpos_word, kpos_word, slotValid_word, WordCmp.cmpi_sge_ofNat hq hs]
  show BitVec.ofBool _ &&& BitVec.ofBool _ = _
  unfold admitted
  by_cases h1 : slotKey i n ≤ 128 * i.val + r.val <;> by_cases h2 : 7 ≤ i.val + n.val / 128 <;> simp [h1, h2]

end Cert.ReferenceIdeal.RefIndex
-- ==== Proof.RefKeys.lean ====
/-
  THE REFERENCE'S KEY AND VALUE WINDOWS. The reference splits the keys into 16 blocks of 128 rows, gathers for every query
  block the 8 blocks of its window, lays them out as 1024 rows and repeats the key/value heads for the query heads. Read
  back: row `n` of the window of query block `i` and query head `h` is row `slotKey i n` of key/value head `h / 4`
  (`keys_apply`, `values_apply`).
-/
module

public import proofs.«01_k».proof.Proof.RefIndex

@[expose] public section

set_option maxRecDepth 16384

noncomputable section

namespace Cert.ReferenceIdeal.RefKeys

open Cert.ReferenceIdeal Cert.ReferenceIdeal.Gen Cert.ReferenceIdeal.Read Cert.ReferenceIdeal.RefIndex
open Idealize.ShloMosaic Idealize.ShloMosaic.TcCoe Idealize.SL.Sem
open Idealize.ShloMosaic (ix1 ix2 ix3 ix4 ix5 ix6)

/-- The dimension numbers of the two gathers of blocks. -/
abbrev gd := gather_S1x4x16x128x128_S16x8x1_S1x4x16x8x128x128_0145_2_n_n_2_2_141128128

/-- The gather of blocks read at an entry: the operand at the block the index table names, clamped to the 16 blocks. -/
theorem gather_blocks {α : Type} (x : S1x4x16x128x128.Idx → α) (b : IVec S16x8x1 32) (g : Fin 4) (i : Fin 16) (j : Fin 8)
    (p d : Fin 128) : Host.gather gd x b (ix6 0 g i j p d)
      = x (ix5 0 g ⟨min (b (ix3 i j 0)).toInt.toNat 15, by omega⟩ p d) := by
  unfold Host.gather
  refine congrArg x (funext fun a => Fin.ext ?_)
  show gd.start (ix6 0 g i j p d) b a + gd.batchCoord (ix6 0 g i j p d) a + gd.offCoord (ix6 0 g i j p d) a = _
  rw [GatherDims.batchCoord_eq_zero _ _ _ List.not_mem_nil, Nat.add_zero]
  have hsi : ∀ c, gd.siIdx (ix6 0 g i j p d) c = ix3 i j 0 := fun c => by
    funext a
    refine Fin.ext ?_
    match a with
    | ⟨0, _⟩ => rfl
    | ⟨1, _⟩ => rfl
    | ⟨2, _⟩ => have h : c.val < 1 := c.isLt; show c.val = 0; omega
  match a with
  | ⟨0, _⟩ => rfl
  | ⟨1, _⟩ => exact Nat.zero_add _
  | ⟨2, _⟩ =>
    rw [GatherDims.offCoord_eq_zero _ _ _ (fun h => ((GatherDims.mem_sKept _ _).mp h).1 (List.mem_singleton.mpr rfl)), Nat.add_zero]
    unfold GatherDims.start
    rw [dif_pos (show (⟨2, by decide⟩ : Fin 5) ∈ gd.startIndexMap from List.mem_singleton.mpr rfl), hsi]
    rfl
  | ⟨3, _⟩ => exact Nat.zero_add _
  | ⟨4, _⟩ => exact Nat.zero_add _

/-- The key/value head that query head `h` reads. -/
def kvHead (h : Fin 16) : Fin 4 := ⟨h.val / 4, by have := h.isLt; omega⟩

/-- The key row of a window slot, as a row of the array. -/
def slotKeyRow (i : Fin 16) (n : Fin 1024) : Fin 2048 :=
  ⟨slotKey i n, by have := i.isLt; have := n.isLt; unfold slotKey; omega⟩

variable (x : FVec Ideal S1x4x2048x128 .f32)

/-- A gathered key block. -/
theorem keyBlock_apply (g : Fin 4) (i : Fin 16) (j : Fin 8) (p d : Fin 128) : val_main_v25 (F := Ideal) x (ix6 0 g i j p d)
    = x (ix4 0 g ⟨(i.val + j.val - 7) * 128 + p.val, by omega⟩ d) := by
  unfold val_main_v25
  rw [gather_blocks]
  simp only [gathered_k]
  pointwise [val_main_v17]

/-- A gathered value block. -/
theorem valueBlock_apply (g : Fin 4) (i : Fin 16) (j : Fin 8) (p d : Fin 128) : val_main_v33 (F := Ideal) x (ix6 0 g i j p d)
    = x (ix4 0 g ⟨(i.val + j.val - 7) * 128 + p.val, by omega⟩ d) := by
  unfold val_main_v33
  rw [gather_blocks]
  simp only [gathered_v]
  pointwise [val_main_v18]

/-- The key window of a query block and query head, row by row. -/
theorem keys_apply (h i : Fin 16) (n : Fin 1024) (d : Fin 128) : val_main_v36 (F := Ideal) x (ix5 0 h i n d)
    = x (ix4 0 (kvHead h) (slotKeyRow i n) d) := by
  refine Eq.trans ?_ (keyBlock_apply x (kvHead h) i (slotBlock n) (slotRow n) d)
  unfold slotBlock slotRow kvHead
  pointwise [val_main_v36, val_main_v35, val_main_v26]

/-- The value window of a query block and query head, row by row. -/
theorem values_apply (h i : Fin 16) (n : Fin 1024) (d : Fin 128) : val_main_v38 (F := Ideal) x (ix5 0 h i n d)
    = x (ix4 0 (kvHead h) (slotKeyRow i n) d) := by
  refine Eq.trans ?_ (valueBlock_apply x (kvHead h) i (slotBlock n) (slotRow n) d)
  unfold slotBlock slotRow kvHead
  pointwise [val_main_v38, val_main_v37, val_main_v34]

end Cert.ReferenceIdeal.RefKeys
-- ==== Proof.RefValue.lean ====
/-
  WHAT THE REFERENCE COMPUTES. Its result at head `h`, query block `i`, row `r` of that block and column `d` is the masked
  attention average of Softmax.lean over the 1024 slots of the block's window (`result_apply`): slot `n` holds key and
  value row `slotKey i n` of head `h / 4` and counts when `admitted i r n`.
-/
module

public import proofs.«01_k».proof.Proof.RefKeys
public import proofs.«01_k».proof.Proof.Softmax

@[expose] public section

set_option maxRecDepth 16384

noncomputable section

namespace Cert.ReferenceIdeal.RefValue

open Cert.ReferenceIdeal Cert.ReferenceIdeal.Gen Cert.ReferenceIdeal.Read Cert.ReferenceIdeal.RefIndex Cert.ReferenceIdeal.RefKeys
open Cert.Attention
open Idealize.ShloMosaic Idealize.ShloMosaic.TcCoe Idealize.SL.Sem
open Idealize.ShloMosaic (ix1 ix2 ix3 ix4 ix5 ix6)

/-- The scale `1 / √128` as the reference computes it. -/
theorem scale_value : val_main_v68 (F := Ideal) ix0 = (((Real.sqrt 128)⁻¹ : ℝ) : EReal) := by
  have h128 : Ideal.ofBits .f32 0x43000000#32 = ((128 : ℝ) : EReal) := by
    simp [Ideal.ofBits, Ideal.ieee, -EReal.coe_mul]
    norm_num
  pointwise [val_main_v68, val_main_v67, val_main_cst, val_main_cst_10, h128]
  have hs : (Real.sqrt 128) ≠ 0 := (Real.sqrt_pos.mpr (by norm_num)).ne'
  have hq : Ideal.sqrt ((128 : ℝ) : EReal) = ((Real.sqrt 128 : ℝ) : EReal) := by
    show (if (128 : ℝ) < 0 then (⊥ : EReal) else _) = _
    rw [if_neg (by norm_num)]
  rw [hq]
  unfold Ideal.div
  rw [if_neg (by exact_mod_cast hs), one_mul, EReal.coe_inv]

variable (Q : FVec Ideal S1x16x2048x128 .f32) (K V : FVec Ideal S1x4x2048x128 .f32)

/-- Row `r` of query block `i`. -/
def queryRow (i : Fin 16) (r : Fin 128) : Fin 2048 := ⟨i.val * 128 + r.val, by omega⟩

/-- The score of window slot `n` for a query row. -/
def score (h i : Fin 16) (r : Fin 128) (n : Fin 1024) : EReal :=
  (∑ e : Fin 128, Q (ix4 0 h (queryRow i r) e) * K (ix4 0 (kvHead h) (slotKeyRow i n) e)) * (((Real.sqrt 128)⁻¹ : ℝ) : EReal)

/-- The scaled scores. -/
theorem score_apply (h i : Fin 16) (r : Fin 128) (n : Fin 1024) :
    val_main_v71 (F := Ideal) Q K (ix5 0 h i r n) = score Q K h i r n := by
  unfold score queryRow
  simp only [← scale_value, ← keys_apply]
  pointwise [val_main_v71, val_main_v70, val_main_v69, val_main_v16]

/-- The masked scores. -/
theorem masked_apply (h i : Fin 16) (r : Fin 128) (n : Fin 1024) :
    val_main_v73 (F := Ideal) Q K (ix5 0 h i r n) = masked (admitted i r) (score Q K h i r) n := by
  have e : val_main_v73 (F := Ideal) Q K (ix5 0 h i r n) = Scalar.select (val_main_v66 (F := Ideal) (ix3 i r n))
      (val_main_v71 (F := Ideal) Q K (ix5 0 h i r n)) (⊥ : EReal) := by
    pointwise [val_main_v73, val_main_call1_v1, val_main_call1_v2, val_main_call1_v0, val_main_v72, val_main_cst_11]
    exact congrArg _ ofBits_negInf
  rw [e, mask_word, WordCmp.select_decide, score_apply]
  rfl

/-- The greatest score of a query row. -/
theorem top_apply (h i : Fin 16) (r : Fin 128) :
    val_main_v74 (F := Ideal) Q K (ix4 0 h i r) = top (admitted i r) (score Q K h i r) := by
  unfold top
  simp only [← masked_apply]
  pointwise [val_main_v74, val_main_cst_12, ofBits_negInf]

/-- The weights. -/
theorem weight_apply (h i : Fin 16) (r : Fin 128) (n : Fin 1024) :
    val_main_v80 (F := Ideal) Q K (ix5 0 h i r n) = weight (admitted i r) (score Q K h i r) n := by
  have e : val_main_v80 (F := Ideal) Q K (ix5 0 h i r n) = Scalar.select (val_main_v66 (F := Ideal) (ix3 i r n))
      (Ideal.exp (val_main_v73 (F := Ideal) Q K (ix5 0 h i r n) - val_main_v74 (F := Ideal) Q K (ix4 0 h i r))) (0 : EReal) := by
    pointwise [val_main_v80, val_main_call2_v1, val_main_call2_v2, val_main_call2_v0, val_main_v79, val_main_cst_13,
      val_main_v78, val_main_v77, val_main_v76, val_main_v75]
    exact congrArg _ Ideal.ofBits_zero_f32
  rw [e, mask_word, WordCmp.select_decide, masked_apply, top_apply, exp_masked]
  unfold weight
  split_ifs <;> rfl

/-- The result, entry by entry. -/
theorem result_apply (h i : Fin 16) (r d : Fin 128) :
    val_main_v86 (F := Ideal) Q K V (ix4 0 h (queryRow i r) d)
      = attend (admitted i r) (score Q K h i r) (fun n => V (ix4 0 (kvHead h) (slotKeyRow i n) d)) := by
  have e : val_main_v86 (F := Ideal) Q K V (ix4 0 h (queryRow i r) d) = val_main_v85 (F := Ideal) Q K V (ix5 0 h i r d) := by
    unfold queryRow
    pointwise [val_main_v86]
  rw [e]
  unfold attend
  simp only [← weight_apply, ← values_apply]
  pointwise [val_main_v85, val_main_v84, val_main_v83, val_main_v82, val_main_v81, val_main_cst_14]

end Cert.ReferenceIdeal.RefValue
-- ==== Proof.Equation.lean ====
/-
  THE EQUATION. Kernel and reference average over different windows: the kernel's window starts at row 0 for the first
  seven query blocks and so holds blocks after the query block, the reference's window always ends at the query block and
  holds copies of block 0 in place of the missing ones. The slots that count are the same rows in both. Turning the
  kernel's slots by `128 (7 - i)` places brings each of them onto the reference's slot of the same row (`turn`), the
  other slots onto masked ones, so the two averages agree (`entry_eq`), with no assumption on the arguments.
-/
module

public import proofs.«01_k».proof.Proof.KernelArray
public import proofs.«01_k».proof.Proof.RefValue

@[expose] public section

set_option maxRecDepth 16384

noncomputable section

namespace Cert.Equation

open Cert.Attention Cert.KernelIdeal.BlockValue Cert.ReferenceIdeal.RefIndex
open Idealize.ShloMosaic
open Idealize.ShloMosaic (ix4)

/-- The kernel's slot `x` of query block `i` turned onto the reference's slots. -/
def turn (i : Fin 16) : Fin 1024 ≃ Fin 1024 where
  toFun x := ⟨(x.val + 128 * (7 - i.val)) % 1024, Nat.mod_lt _ (by omega)⟩
  invFun n := ⟨(n.val + (1024 - 128 * (7 - i.val))) % 1024, Nat.mod_lt _ (by omega)⟩
  left_inv x := Fin.ext (by have := x.isLt; dsimp only; omega)
  right_inv n := Fin.ext (by have := n.isLt; dsimp only; omega)

/-- The same slots count. -/
theorem admitted_turn (i : Fin 16) (r : Fin 128) (x : Fin 1024) :
    admitted i r (turn i x) ↔ start i.val + x.val ≤ 128 * i.val + r.val := by
  have hi := i.isLt
  have hr := r.isLt
  have hx := x.isLt
  unfold admitted slotKey start turn
  simp only [Equiv.coe_fn_mk]
  rcases Nat.lt_or_ge i.val 7 with h | h
  · rcases Nat.lt_or_ge (x.val + 128 * (7 - i.val)) 1024 with h' | h'
    · rw [Nat.mod_eq_of_lt h']
      omega
    · rw [Nat.mod_eq_sub_mod h', Nat.mod_eq_of_lt (by omega)]
      omega
  · rw [Nat.mod_eq_of_lt (by omega)]
    omega

/-- A slot that counts holds the same key row in both. -/
theorem slotKey_turn (i : Fin 16) (r : Fin 128) (x : Fin 1024) (hok : start i.val + x.val ≤ 128 * i.val + r.val) :
    slotKey i (turn i x) = start i.val + x.val := by
  have hi := i.isLt
  have hr := r.isLt
  have hx := x.isLt
  unfold slotKey turn
  unfold start at hok ⊢
  simp only [Equiv.coe_fn_mk]
  rw [Nat.mod_eq_of_lt (by omega : x.val + 128 * (7 - i.val) < 1024)]
  omega

/-- The query block and the row in it of an array row. -/
def blockOf (s : Fin 2048) : Fin 16 := ⟨s.val / 128, by have := s.isLt; omega⟩
def rowOf (s : Fin 2048) : Fin 128 := ⟨s.val % 128, Nat.mod_lt _ (by omega)⟩

/-- An array row is its row of its block. -/
theorem queryRow_eq (s : Fin 2048) : Cert.ReferenceIdeal.RefValue.queryRow (blockOf s) (rowOf s) = s :=
  Fin.ext (by unfold Cert.ReferenceIdeal.RefValue.queryRow blockOf rowOf; dsimp only; omega)

/-- One entry of the reference's result is the kernel's. -/
theorem entry_eq (Q : FVec Ideal Cert.KernelIdeal.S1x16x2048x128 .f32) (K V : FVec Ideal Cert.KernelIdeal.S1x4x2048x128 .f32)
    (h : Fin 16) (s : Fin 2048) (d : Fin 128) :
    Cert.ReferenceIdeal.Read.val_main_v86 (F := Ideal) Q K V (ix4 0 h s d) = Cert.KernelIdeal.KernelArray.entry Q K V h s d := by
  have hs : s.val = 128 * (blockOf s).val + (rowOf s).val := by unfold blockOf rowOf; dsimp only; omega
  have hrow : ∀ x, start (s.val / 128) + x.val ≤ s.val →
      Cert.ReferenceIdeal.RefKeys.slotKeyRow (blockOf s) (turn (blockOf s) x) = Cert.KernelIdeal.KernelArray.keyRow s x :=
    fun x hx => Fin.ext (slotKey_turn (blockOf s) (rowOf s) x (hs ▸ hx))
  have e := Cert.ReferenceIdeal.RefValue.result_apply Q K V h (blockOf s) (rowOf s) d
  rw [queryRow_eq] at e
  rw [e]
  unfold Cert.KernelIdeal.KernelArray.entry
  refine attend_reindex (turn (blockOf s)) _ _ _ _ _ _ (fun x => ?_) (fun x hx => ?_) (fun x hx => ?_)
  · rw [admitted_turn, ← hs]
    exact Iff.rfl
  · unfold Cert.ReferenceIdeal.RefValue.score
    rw [queryRow_eq, hrow x hx]
    rfl
  · show V (ix4 0 _ _ d) = _
    rw [hrow x hx]
    rfl

/-- The reference's result is the kernel's array. -/
theorem result_eq (Q : FVec Ideal Cert.KernelIdeal.S1x16x2048x128 .f32) (K V : FVec Ideal Cert.KernelIdeal.S1x4x2048x128 .f32) :
    Cert.ReferenceIdeal.Read.val_main_v86 (F := Ideal) Q K V = Cert.KernelIdeal.KernelArray.array Q K V := by
  funext j
  have hj : j = ix4 0 (j 1) (j 2) (j 3) := by
    funext a
    match a with
    | ⟨0, _⟩ => exact Subsingleton.elim (α := Fin 1) _ _
    | ⟨1, _⟩ => rfl
    | ⟨2, _⟩ => rfl
    | ⟨3, _⟩ => rfl
  exact (congrArg (Cert.ReferenceIdeal.Read.val_main_v86 (F := Ideal) Q K V) hj).trans (entry_eq Q K V (j 1) (j 2) (j 3))

end Cert.Equation
-- ==== Proof.lean ====
/-
  THE CERTIFICATE. The three programs run and leave their arguments and counters as they were; the idealized kernel is the
  kernel with its two named constants; and the idealized kernel's result is the reference's, at every argument.
-/
module

public import proofs.«01_k».proof.Defs
public import proofs.«01_k».proof.Proof.Equation
public import proofs.«01_k».proof.Proof.Gen.Kernel.Frame
public import Idealize.ShloMosaic.Lib.Claim

@[expose] public section

noncomputable section

namespace Cert.Proof

open Idealize.ShloMosaic Idealize.SL.Sem

/-- The two named constants stand where their patterns stood. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩

/-- The reference runs and leaves its arguments and counters as they were. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- The kernel's result is the reference's. -/
theorem algebraic : Cert.algebraic_KernelIdeal_ReferenceIdeal (hKernelIdeal := Cert.KernelIdeal.Gen.facts)
    (hReferenceIdeal := Cert.ReferenceIdeal.Gen.facts) := by
  intro m g m' g' hpre hagree
  refine ⟨fun c => (Cert.KernelIdeal.Gen.dats m 0 c).arrAt 3 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨h0, h1, h2⟩ := hagree c
  rw [Cert.ReferenceIdeal.Read.val_main_v86_eq, h0, h1, h2]
  exact (Cert.Equation.result_eq _ _ _).trans (Cert.KernelIdeal.KernelArray.final m c).symm

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves, algebraic⟩

end Cert.Proof

end
